-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x128 : Shape := ⟨3, ![8, 1024, 128]⟩
abbrev S8x1024x1024 : Shape := ⟨3, ![8, 1024, 1024]⟩
abbrev S128x128 : Shape := ⟨2, ![128, 128]⟩
abbrev S128 : Shape := ⟨1, ![128]⟩
abbrev S1x128 : Shape := ⟨2, ![1, 128]⟩
abbrev S1x256x1024 : Shape := ⟨3, ![1, 256, 1024]⟩
abbrev S1x1024x128 : Shape := ⟨3, ![1, 1024, 128]⟩
abbrev S1x256x128 : Shape := ⟨3, ![1, 256, 128]⟩
abbrev S256x1024 : Shape := ⟨2, ![256, 1024]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8x1024x128, .f32⟩
  | .hbm, ⟨1, _⟩ => ⟨S8x1024x1024, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S8x1024x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x128, .f32⟩
  | .local _ .vmem, ⟨3, _⟩ => ⟨S1x1024x128, .f32⟩
  | .local _ .vmem, ⟨4, _⟩ => ⟨S128x128, .f32⟩
  | .local _ .vmem, ⟨5, _⟩ => ⟨S1x128, .f32⟩
  | .local _ .vmem, ⟨6, _⟩ => ⟨S1x256x128, .f32⟩
  | .local _ .vmem, ⟨7, _⟩ => ⟨S1x256x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x1024x128 : Shape := ⟨3, ![8, 1024, 128]⟩
abbrev S8x1024x1024 : Shape := ⟨3, ![8, 1024, 1024]⟩
abbrev S128x128 : Shape := ⟨2, ![128, 128]⟩
abbrev S128 : Shape := ⟨1, ![128]⟩
abbrev S_ : Shape := ⟨0, ![]⟩
abbrev S8x1024 : Shape := ⟨2, ![8, 1024]⟩
abbrev S8x1024x1 : Shape := ⟨3, ![8, 1024, 1]⟩
abbrev S1x1x128 : Shape := ⟨3, ![1, 1, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1024x1024, .f32⟩
  | .hbm, ⟨2, _⟩ => ⟨S128x128, .f32⟩
  | .hbm, ⟨3, _⟩ => ⟨S128, .f32⟩
  | .hbm, ⟨4, _⟩ => ⟨S8x1024x128, .f32⟩
  | .hbm, ⟨5, _⟩ => ⟨S_, .f32⟩
  | .hbm, ⟨6, _⟩ => ⟨S8x1024, .f32⟩
  | .hbm, ⟨7, _⟩ => ⟨S8x1024x1, .f32⟩
  | .hbm, ⟨8, _⟩ => ⟨S_, .f32⟩
  | .hbm, ⟨9, _⟩ => ⟨S_, .f32⟩
  | .hbm, ⟨10, _⟩ => ⟨S8x1024x1, .f32⟩
  | .hbm, ⟨11, _⟩ => ⟨S8x1024x1, .f32⟩
  | .hbm, ⟨12, _⟩ => ⟨S8x1024x128, .f32⟩
  | .hbm, ⟨13, _⟩ => ⟨S8x1024x128, .f32⟩
  | .hbm, ⟨14, _⟩ => ⟨S8x1024x128, .f32⟩
  | .hbm, ⟨15, _⟩ => ⟨S1x1x128, .f32⟩
  | .hbm, ⟨16, _⟩ => ⟨S8x1024x128, .f32⟩
  | .hbm, ⟨17, _⟩ => ⟨S8x1024x128, .f32⟩
  | .hbm, ⟨18, _⟩ => ⟨S8x1024x128, .f32⟩
  | .hbm, ⟨19, _⟩ => ⟨S_, .f32⟩
  | .hbm, ⟨20, _⟩ => ⟨S8x1024, .f32⟩
  | .hbm, ⟨21, _⟩ => ⟨S8x1024x1, .f32⟩
  | .hbm, ⟨22, _⟩ => ⟨S8x1024x1, .f32⟩
  | .hbm, ⟨23, _⟩ => ⟨S_, .f32⟩
  | .hbm, ⟨24, _⟩ => ⟨S_, .f32⟩
  | .hbm, ⟨25, _⟩ => ⟨S8x1024x1, .f32⟩
  | .hbm, ⟨26, _⟩ => ⟨S8x1024x1, .f32⟩
  | .hbm, ⟨27, _⟩ => ⟨S8x1024x128, .f32⟩
  | .hbm, ⟨28, _⟩ => ⟨S8x1024x128, .f32⟩
  | .hbm, ⟨29, _⟩ => ⟨S_, .f32⟩
  | .hbm, ⟨30, _⟩ => ⟨S8x1024x128, .f32⟩
  | .hbm, ⟨31, _⟩ => ⟨S8x1024x128, .f32⟩
  | .hbm, ⟨32, _⟩ => ⟨S_, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | .hbm, ⟨37, _⟩ => ⟨S8x1024x1, .f32⟩
  | .hbm, ⟨38, _⟩ => ⟨S8x1024x128, .f32⟩
  | .hbm, ⟨39, _⟩ => ⟨S8x1024x128, .f32⟩
  | .hbm, ⟨40, _⟩ => ⟨S8x1024x128, .f32⟩
  | .hbm, ⟨41, _⟩ => ⟨S_, .f32⟩
  | .hbm, ⟨42, _⟩ => ⟨S8x1024, .f32⟩
  | .hbm, ⟨43, _⟩ => ⟨S8x1024x1, .f32⟩
  | .hbm, ⟨44, _⟩ => ⟨S8x1024x128, .f32⟩
  | .hbm, ⟨45, _⟩ => ⟨S8x1024x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v10 : Ref sig .tc := ⟨.hbm, 22, rfl⟩
abbrev main_cst_1 : Ref sig .tc := ⟨.hbm, 23, rfl⟩
abbrev main_call2_v0 : Ref sig .tc := ⟨.hbm, 24, rfl⟩
abbrev main_call2_v1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call3_cst : Ref sig .tc := ⟨.hbm, 29, rfl⟩
abbrev main_call3_v0 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Proof.Spec.lean ====
/-
  The layer on one node, over the extended reals: plain functions of a row of the adjacency matrix, the batch's feature
  matrix, the weights and the bias. Both programs are shown to compute `nodeRow` for every batch and node, so this file
  is where their two results meet. Nothing here knows about blocks, grids or memory.
-/
module

public import Idealize.ShloMosaic.Lib.Pointwise

@[expose] public section

noncomputable section

namespace Cert.Sage

open Idealize.ShloMosaic

/-- The lower bound of both clips: the rational that the float word nearest to 1e-12 denotes. -/
abbrev floorVal : EReal := Ideal.ofBits .f32 0x2B8CBCCC#32

/-- The mean aggregation: feature `d` of the neighbours' weighted sum, over the clipped degree. -/
def meanRow (a : Fin 1024 → EReal) (x : Fin 1024 → Fin 128 → EReal) (d : Fin 128) : EReal :=
  Ideal.div (∑ k, a k * x k d) (max floorVal (∑ k, a k))

/-- The linear layer: a row of features times the weights, plus the bias. -/
def linearRow (h : Fin 128 → EReal) (w : Fin 128 → Fin 128 → EReal) (b : Fin 128 → EReal) (c : Fin 128) : EReal :=
  (∑ d, h d * w d c) + b c

/-- A row over its clipped Euclidean norm. -/
def unitRow (o : Fin 128 → EReal) (c : Fin 128) : EReal :=
  Ideal.div (o c) (max floorVal (Ideal.sqrt (∑ d, o d * o d)))

/-- The positive part of a row. -/
def reluRow (o : Fin 128 → EReal) (c : Fin 128) : EReal := max (o c) 0

/-- The greatest entry of a row, from the word of minus infinity. -/
def topRow (s : Fin 128 → EReal) : EReal := Finset.univ.fold max (Ideal.ofBits .f32 0xFF800000#32) s

/-- The exponentials of a row below its greatest entry. -/
def expRow (s : Fin 128 → EReal) (c : Fin 128) : EReal := Ideal.exp (s c - topRow s)

/-- A row over its sum. -/
def shareRow (e : Fin 128 → EReal) (c : Fin 128) : EReal := Ideal.div (e c) (∑ d, e d)

/-- The whole layer on one node: aggregate, apply the weights, normalise, take the positive part, softmax. -/
def nodeRow (a : Fin 1024 → EReal) (x : Fin 1024 → Fin 128 → EReal) (w : Fin 128 → Fin 128 → EReal)
    (b : Fin 128 → EReal) : Fin 128 → EReal :=
  shareRow (expRow (reluRow (unitRow (linearRow (meanRow a x) w b))))

/-- The maximum with the word that the greatest entry was folded from changes nothing. -/
theorem max_topRow (s : Fin 128 → EReal) : max (Ideal.ofBits .f32 0xFF800000#32) (topRow s) = topRow s :=
  max_eq_right (Finset.le_fold_max _ |>.mpr (Or.inl le_rfl))

end Cert.Sage

end
-- ==== Proof.Block.lean ====
/-
  What the kernel's body computes from the four blocks that it loads: row `r` of the stored block is the layer
  `Cert.Sage.nodeRow` of row `r` of the adjacency block. The body's value is cut into the layer's six steps, and each
  step is read at an index.
-/
module

public import proofs.«01_k».proof.Proof.Gen.KernelIdeal.Skeleton
public import proofs.«01_k».proof.Proof.Spec

@[expose] public section

set_option maxRecDepth 16384

noncomputable section

namespace Cert.KernelIdeal.Block

open Cert.KernelIdeal Idealize.ShloMosaic
open Cert.KernelIdeal.Facts₀ Cert.KernelIdeal.Facts

/-- The mean aggregation of a block of nodes. -/
def mean (va : FVec Ideal S1x256x1024 .f32) (vx : FVec Ideal S1x1024x128 .f32) : FVec Ideal S256x128 .f32 :=
  divf (matmul dot_S256x1024_S1024x128_S256x128_1_0_0_1_n_n none (shapeCast S256x1024 va shapeCasts_S1x256x1024_S256x1024)
      (shapeCast S1024x128 vx shapeCasts_S1x1024x128_S1024x128) (constant S256x128 .f32 0x00000000#32))
    (broadcastTo S256x128 (maximumf (broadcast S256x1 (Scalar.ofBits .f32 0x2B8CBCCC#32))
      (shapeCast S256x1 (multiReduction .add [1] S256 (shapeCast S256x1024 va shapeCasts_S1x256x1024_S256x1024) 0x00000000#32
        reduces_S256x1024_S256 (.inl rfl) rfl) shapeCasts_S256_S256x1)) broadcasts_S256x1_S256x128)

/-- The linear layer on a block of nodes. -/
def linear (h : FVec Ideal S256x128 .f32) (vw : FVec Ideal S128x128 .f32) (vb : FVec Ideal S1x128 .f32) :
    FVec Ideal S256x128 .f32 :=
  addf (matmul dot_S256x128_S128x128_S256x128_1_0_0_1_n_n none h vw (constant S256x128 .f32 0x00000000#32))
    (broadcastTo S256x128 (shapeCast S1x128 vb shapeCasts_S1x128_S1x128) broadcasts_S1x128_S256x128)

/-- Each row over its clipped norm. -/
def unit (o : FVec Ideal S256x128 .f32) : FVec Ideal S256x128 .f32 :=
  divf o (broadcastTo S256x128 (maximumf (broadcast S256x1 (Scalar.ofBits .f32 0x2B8CBCCC#32))
    (sqrt (shapeCast S256x1 (multiReduction .add [1] S256 (mulf o o) 0x00000000#32 reduces_S256x128_S256 (.inl rfl) rfl)
      shapeCasts_S256_S256x1))) broadcasts_S256x1_S256x128)

/-- The positive part. -/
def relu (o : FVec Ideal S256x128 .f32) : FVec Ideal S256x128 .f32 :=
  maximumf o (broadcast S256x128 (Scalar.ofBits .f32 0x00000000#32))

/-- The exponentials below each row's greatest entry. -/
def expo (s : FVec Ideal S256x128 .f32) : FVec Ideal S256x128 .f32 :=
  exp (subf s (broadcastTo S256x128 (shapeCast S256x1 (multiReduction .maximumf [1] S256 s 0xFF800000#32
    reduces_S256x128_S256 (.inl rfl) rfl) shapeCasts_S256_S256x1) broadcasts_S256x1_S256x128))

/-- Each row over its sum. -/
def share (e : FVec Ideal S256x128 .f32) : FVec Ideal S256x128 .f32 :=
  divf e (broadcastTo S256x128 (shapeCast S256x1 (multiReduction .add [1] S256 e 0x00000000#32
    reduces_S256x128_S256 (.inl rfl) rfl) shapeCasts_S256_S256x1) broadcasts_S256x1_S256x128)

/-- The body's value is the six steps one after the other. -/
theorem pay_eq (va : FVec Ideal S1x256x1024 .f32) (vx : FVec Ideal S1x1024x128 .f32) (vw : FVec Ideal S128x128 .f32)
    (vb : FVec Ideal S1x128 .f32) :
    Gen.k0_pay2 (F := Ideal) va vx vw vb = share (expo (relu (unit (linear (mean va vx) vw vb)))) := rfl

/-- The mean aggregation at an index is `Cert.Sage.meanRow` of the rows that it reads. -/
theorem mean_apply (va : FVec Ideal S1x256x1024 .f32) (vx : FVec Ideal S1x1024x128 .f32) (r : Fin 256) (d : Fin 128) :
    mean va vx (ix2 r d) = Sage.meanRow (fun k => va (ix3 0 r k)) (fun k d => vx (ix3 0 k d)) d := by
  pointwise [mean, Sage.meanRow]

/-- The linear layer at an index is `Cert.Sage.linearRow` of the rows that it reads. -/
theorem linear_apply (h : FVec Ideal S256x128 .f32) (vw : FVec Ideal S128x128 .f32) (vb : FVec Ideal S1x128 .f32)
    (r : Fin 256) (c : Fin 128) :
    linear h vw vb (ix2 r c) = Sage.linearRow (fun d => h (ix2 r d)) (fun d c => vw (ix2 d c)) (fun c => vb (ix2 0 c)) c := by
  pointwise [linear, Sage.linearRow]

/-- The normalised array at an index is `Cert.Sage.unitRow` of the rows that it reads. -/
theorem unit_apply (o : FVec Ideal S256x128 .f32) (r : Fin 256) (c : Fin 128) :
    unit o (ix2 r c) = Sage.unitRow (fun d => o (ix2 r d)) c := by
  pointwise [unit, Sage.unitRow]

/-- The positive part at an index is `Cert.Sage.reluRow` of the rows that it reads. -/
theorem relu_apply (o : FVec Ideal S256x128 .f32) (r : Fin 256) (c : Fin 128) :
    relu o (ix2 r c) = Sage.reluRow (fun d => o (ix2 r d)) c := by
  pointwise [relu, Sage.reluRow]

/-- The array of exponentials at an index is `Cert.Sage.expRow` of the rows that it reads. -/
theorem expo_apply (s : FVec Ideal S256x128 .f32) (r : Fin 256) (c : Fin 128) :
    expo s (ix2 r c) = Sage.expRow (fun d => s (ix2 r d)) c := by
  pointwise [expo, Sage.expRow, Sage.topRow]

/-- The array over its row sums at an index is `Cert.Sage.shareRow` of the rows that it reads. -/
theorem share_apply (e : FVec Ideal S256x128 .f32) (r : Fin 256) (c : Fin 128) :
    share e (ix2 r c) = Sage.shareRow (fun d => e (ix2 r d)) c := by
  pointwise [share, Sage.shareRow]

/-- Row `r` of the stored block is the layer on row `r` of the adjacency block. -/
theorem pay_apply (va : FVec Ideal S1x256x1024 .f32) (vx : FVec Ideal S1x1024x128 .f32) (vw : FVec Ideal S128x128 .f32)
    (vb : FVec Ideal S1x128 .f32) (r : Fin 256) (c : Fin 128) :
    Gen.k0_pay2 (F := Ideal) va vx vw vb (ix2 r c) =
      Sage.nodeRow (fun k => va (ix3 0 r k)) (fun k d => vx (ix3 0 k d)) (fun d c => vw (ix2 d c)) (fun c => vb (ix2 0 c)) c := by
  rw [pay_eq, share_apply]
  simp only [expo_apply, relu_apply, unit_apply, linear_apply, mean_apply]
  rfl

end Cert.KernelIdeal.Block

end
-- ==== Proof.Array.lean ====
/-
  The kernel's result array after its run: at batch `b`, node `n` and column `c` it holds the layer `Cert.Sage.nodeRow` of
  the four arguments. Every index lies in the block of one grid point, and that point writes the layer of its rows.
-/
module

public import Idealize.ShloMosaic.Lib.Pipeline.ValueKit
public import proofs.«01_k».proof.Proof.Gen.KernelIdeal.Value
public import proofs.«01_k».proof.Proof.Block

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The layer on every node of every batch, from the kernel's argument arrays. -/
def layer (c : Dev nD) : FVec Ideal S8x1024x128 .f32 := fun y =>
  Sage.nodeRow (fun k => m ((c : Thread nD τ).loc main_arg1) (ix3 (y 0) (y 1) k))
    (fun k d => m ((c : Thread nD τ).loc main_arg0) (ix3 (y 0) k d))
    (fun d j => m ((c : Thread nD τ).loc main_arg2) (ix2 d j))
    (fun j => m ((c : Thread nD τ).loc main_arg3) (ix1 j)) (y 2)

/-- Where every window stands at each grid point. -/
theorem idx : ∀ t : Fin cfg0.N,
    win0_0.index t = ![(grid0.coords t 0).val, (grid0.coords t 1).val, 0] ∧
    win0_1.index t = ![(grid0.coords t 0).val, 0, 0] ∧
    win0_2.index t = ![0, 0] ∧ win0_3.index t = ![0, 0] ∧
    win0_4.index t = ![(grid0.coords t 0).val, (grid0.coords t 1).val, 0] :=
  (by decide +kernel : ∀ t : Fin grid0.N, _)

/-- The bias that the region finds is the bias argument under a unit axis. -/
theorem bias_apply (c : Dev nD) (j : Fin 128) :
    (V m c main_call0_v0 : FVec Ideal S1x128 .f32) (ix2 0 j) = m ((c : Thread nD τ).loc main_arg3) (ix1 j) := by
  entry_read
  pointwise

/-- The array after the last grid point is the layer at every index. -/
theorem final (c : Dev nD) : (dats m 0 c).arrAt 4 cfg0.N = layer m c := by
  refine (dats m 0 c).arrAt_eq_of_covers 4 _ (by decide +kernel) fun t hf y => ?_
  blk_simp
  rw [after0_4]
  frame_out
  obtain ⟨e0, e1, e2, e3, e4⟩ := idx t
  have hy : (Value.ix4_0 (r0_4.idx y) : S256x128.Idx) = ix2 (y 1) (y 2) := by
    have h1 : (r0_4.idx y 1).val = (y 1).val := by show 0 + 1 * (y 1).val = _; omega
    have h2 : (r0_4.idx y 2).val = (y 2).val := by show 0 + 1 * (y 2).val = _; omega
    blk_ext [h1, h2]
  refine (Value.piece4_0 _ _ _ _ y).trans ?_
  rw [Value.E4, hy]
  refine (Block.pay_apply _ _ _ _ (y 1) (y 2)).trans ?_
  unfold layer
  congr 1
  · funext k
    blk_ext [iblk, V, e0, e4]
  · funext k d
    blk_ext [iblk, V, e1, e4]
  · funext d j
    blk_ext [iblk, V, e2]
  · funext j
    refine Eq.trans ?_ (bias_apply m c j)
    blk_ext [iblk, e3]
  · refine Fin.ext ?_
    blk_simp [e4]

/-- After the idealized kernel's run the result array holds the layer and the arguments are as launched. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Array

end
-- ==== Proof.Reference.lean ====
/-
  What the reference computes: its result at batch `b`, node `n` and column `c` is the layer `Cert.Sage.nodeRow` of its
  four arguments. Its value is cut into the layer's six steps, and each step is read at an index.
-/
module

public import proofs.«01_k».proof.Proof.Gen.ReferenceIdeal.Run
public import proofs.«01_k».proof.Proof.Spec

@[expose] public section

set_option maxRecDepth 16384

noncomputable section

namespace Cert.ReferenceIdeal.Steps

open Cert.ReferenceIdeal Idealize.ShloMosaic Idealize.ShloMosaic.TcCoe Idealize.SL.Sem
open Cert.ReferenceIdeal.Facts₀ Cert.ReferenceIdeal.Facts

/-- A column of per-row numbers, clipped from below and spread over the rows. -/
def clip (v : FVec Ideal S8x1024x1 .f32) : FVec Ideal S8x1024x128 .f32 :=
  broadcastInDim S8x1024x128 ![0, 1, 2] bcast_S8x1024x1_S8x1024x128_0_1_2
    (maximumf (broadcastInDim S8x1024x1 ![] bcast_S_S8x1024x1 (constant S_ .f32 0x2B8CBCCC#32)) v)

/-- Per-row numbers as a column. -/
def column (v : FVec Ideal S8x1024 .f32) : FVec Ideal S8x1024x1 .f32 :=
  broadcastInDim S8x1024x1 ![0, 1] bcast_S8x1024_S8x1024x1_0_1 v

/-- The row sums of a feature array. -/
def rowSums (v : FVec Ideal S8x1024x128 .f32) : FVec Ideal S8x1024 .f32 :=
  Host.reduceAdd v (constant S_ .f32 0x00000000#32) reducesTo_S8x1024x128_S8x1024_d2 h_S_

/-- The mean aggregation. -/
def mean (a : FVec Ideal S8x1024x1024 .f32) (x : FVec Ideal S8x1024x128 .f32) : FVec Ideal S8x1024x128 .f32 :=
  Host.divf (Host.dotGeneral dot_S8x1024x1024_S8x1024x128_S8x1024x128_2_1_1_2_0_0 none a x)
    (clip (column (Host.reduceAdd a (constant S_ .f32 0x00000000#32) reducesTo_S8x1024x1024_S8x1024_d2 h_S_)))

/-- The linear layer. -/
def linear (h : FVec Ideal S8x1024x128 .f32) (w : FVec Ideal S128x128 .f32) (b : FVec Ideal S128 .f32) :
    FVec Ideal S8x1024x128 .f32 :=
  addf (Host.dotGeneral dot_S8x1024x128_S128x128_S8x1024x128_2_0_01_1_n_n none h w)
    (broadcastInDim S8x1024x128 ![0, 1, 2] bcast_S1x1x128_S8x1024x128_0_1_2
      (broadcastInDim S1x1x128 ![2] bcast_S128_S1x1x128_2 b))

/-- Each row over its clipped norm. -/
def unit (o : FVec Ideal S8x1024x128 .f32) : FVec Ideal S8x1024x128 .f32 :=
  Host.divf o (clip (Host.sqrt (column (rowSums (mulf o o)))))

/-- The positive part. -/
def relu (o : FVec Ideal S8x1024x128 .f32) : FVec Ideal S8x1024x128 .f32 :=
  maximumf o (broadcastInDim S8x1024x128 ![] bcast_S_S8x1024x128 (constant S_ .f32 0x00000000#32))

/-- The greatest entry of each row, once more against minus infinity. -/
def top (s : FVec Ideal S8x1024x128 .f32) : FVec Ideal S8x1024 .f32 :=
  maximumf (broadcastInDim S8x1024 ![] bcast_S_S8x1024 (constant S_ .f32 0xFF800000#32))
    (Host.reduce FloatOps.maximumf s (constant S_ .f32 0xFF800000#32) reducesTo_S8x1024x128_S8x1024_d2 h_S_)

/-- A column spread over the rows. -/
def spread (v : FVec Ideal S8x1024 .f32) : FVec Ideal S8x1024x128 .f32 :=
  broadcastInDim S8x1024x128 ![0, 1, 2] bcast_S8x1024x1_S8x1024x128_0_1_2 (column v)

/-- The exponentials below each row's greatest entry. -/
def expo (s : FVec Ideal S8x1024x128 .f32) : FVec Ideal S8x1024x128 .f32 := Host.exp (subf s (spread (top s)))

/-- Each row over its sum. -/
def share (e : FVec Ideal S8x1024x128 .f32) : FVec Ideal S8x1024x128 .f32 := Host.divf e (spread (rowSums e))

variable (b : Fin 8) (n : Fin 1024) (c : Fin 128)

/-- The mean aggregation at an index is `Cert.Sage.meanRow` of the rows that it reads. -/
theorem mean_apply (a : FVec Ideal S8x1024x1024 .f32) (x : FVec Ideal S8x1024x128 .f32) :
    mean a x (ix3 b n c) = Sage.meanRow (fun k => a (ix3 b n k)) (fun k d => x (ix3 b k d)) c := by
  pointwise [mean, clip, column, Sage.meanRow]

/-- The linear layer at an index is `Cert.Sage.linearRow` of the rows that it reads. -/
theorem linear_apply (h : FVec Ideal S8x1024x128 .f32) (w : FVec Ideal S128x128 .f32) (v : FVec Ideal S128 .f32) :
    linear h w v (ix3 b n c) = Sage.linearRow (fun d => h (ix3 b n d)) (fun d c => w (ix2 d c)) (fun c => v (ix1 c)) c := by
  pointwise [linear, Sage.linearRow]

/-- The normalised array at an index is `Cert.Sage.unitRow` of the rows that it reads. -/
theorem unit_apply (o : FVec Ideal S8x1024x128 .f32) : unit o (ix3 b n c) = Sage.unitRow (fun d => o (ix3 b n d)) c := by
  pointwise [unit, clip, column, rowSums, Sage.unitRow]

/-- The positive part at an index is `Cert.Sage.reluRow` of the rows that it reads. -/
theorem relu_apply (o : FVec Ideal S8x1024x128 .f32) : relu o (ix3 b n c) = Sage.reluRow (fun d => o (ix3 b n d)) c := by
  pointwise [relu, Sage.reluRow]

/-- The array of greatest entries at an index is `Cert.Sage.topRow` of the rows that it reads. -/
theorem top_apply (s : FVec Ideal S8x1024x128 .f32) : top s (ix2 b n) = Sage.topRow (fun d => s (ix3 b n d)) := by
  refine Eq.trans ?_ (Sage.max_topRow _)
  pointwise [top, Sage.topRow]

/-- The array of exponentials at an index is `Cert.Sage.expRow` of the rows that it reads. -/
theorem expo_apply (s : FVec Ideal S8x1024x128 .f32) : expo s (ix3 b n c) = Sage.expRow (fun d => s (ix3 b n d)) c := by
  pointwise [expo, spread, column, Sage.expRow]
  rw [top_apply]

/-- The array over its row sums at an index is `Cert.Sage.shareRow` of the rows that it reads. -/
theorem share_apply (e : FVec Ideal S8x1024x128 .f32) : share e (ix3 b n c) = Sage.shareRow (fun d => e (ix3 b n d)) c := by
  pointwise [share, spread, column, rowSums, Sage.shareRow]

/-- The layer's six steps one after the other, at an index. -/
theorem steps_apply (a : FVec Ideal S8x1024x1024 .f32) (x : FVec Ideal S8x1024x128 .f32) (w : FVec Ideal S128x128 .f32)
    (v : FVec Ideal S128 .f32) :
    share (expo (relu (unit (linear (mean a x) w v)))) (ix3 b n c) =
      Sage.nodeRow (fun k => a (ix3 b n k)) (fun k d => x (ix3 b k d)) (fun d c => w (ix2 d c)) (fun c => v (ix1 c)) c := by
  rw [share_apply]
  simp only [expo_apply, relu_apply, unit_apply, linear_apply, mean_apply]
  rfl

/-- The reference's result is the six steps on its arguments. -/
theorem res_eq (m : (ℓ : Loc nD τ sig) → Buf (Elt Ideal) ℓ) (c : Dev nD) :
    Value.res_main_v25 m c = share (expo (relu (unit (linear
      (mean (m ((c : Thread nD τ).loc main_arg1)) (m ((c : Thread nD τ).loc main_arg0)))
      (m ((c : Thread nD τ).loc main_arg2)) (m ((c : Thread nD τ).loc main_arg3)))))) := rfl

/-- The reference's result at every index is the layer on that node. -/
theorem res_apply (m : (ℓ : Loc nD τ sig) → Buf (Elt Ideal) ℓ) (c : Dev nD) :
    Value.res_main_v25 m c = fun y : S8x1024x128.Idx =>
      Sage.nodeRow (fun k => m ((c : Thread nD τ).loc main_arg1) (ix3 (y 0) (y 1) k))
        (fun k d => m ((c : Thread nD τ).loc main_arg0) (ix3 (y 0) k d))
        (fun d j => m ((c : Thread nD τ).loc main_arg2) (ix2 d j))
        (fun j => m ((c : Thread nD τ).loc main_arg3) (ix1 j)) (y 2) := by
  rw [res_eq]
  funext y
  obtain ⟨i, j, k, rfl⟩ : ∃ i j k, y = ix3 i j k := ⟨y 0, y 1, y 2, eq_ix3 y⟩
  exact steps_apply i j k _ _ _ _

end Cert.ReferenceIdeal.Steps

end
-- ==== Proof.lean ====
/-
  The proof of `Cert.Claim`: the three programs run and leave their arguments as launched, the idealization rewrites
  nothing, and the idealized kernel's result is the reference's. The last rests on two readings of the same function of
  the arguments: the kernel's in Proof/Array.lean and the reference's in Proof/Reference.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel runs, leaves its arguments as launched and ends with every semaphore at zero. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- So does the reference, which has no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealization rewrites no operation. -/
theorem preserves : Cert.preserves_Kernel_KernelIdeal := trivial

/-- From arguments that agree, the idealized kernel and the reference end with the same result: each holds the layer
    `Cert.Sage.nodeRow` of the arguments at every batch, node and column. -/
theorem algebraic : Cert.algebraic_KernelIdeal_ReferenceIdeal := by
  intro m ρ m' ρ' _ hagree
  refine ⟨fun c => Cert.KernelIdeal.Array.layer m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Steps.res_apply m' c).trans ?_
  obtain ⟨h0, h1, h2, h3⟩ := hagree c
  rw [h0, h1, h2, h3]
  rfl

/-- Every claim of the certificate. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
